-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x7168 : Shape := ⟨3, ![2, 128, 7168]⟩
abbrev S3584x18432 : Shape := ⟨2, ![3584, 18432]⟩
abbrev S56x18432 : Shape := ⟨2, ![56, 18432]⟩
abbrev S256x7168 : Shape := ⟨2, ![256, 7168]⟩
abbrev S256x18432 : Shape := ⟨2, ![256, 18432]⟩
abbrev S3584x512 : Shape := ⟨2, ![3584, 512]⟩
abbrev S56x512 : Shape := ⟨2, ![56, 512]⟩
abbrev S256x512 : Shape := ⟨2, ![256, 512]⟩
abbrev S896x512 : Shape := ⟨2, ![896, 512]⟩
abbrev S7168x512 : Shape := ⟨2, ![7168, 512]⟩
abbrev S128x512 : Shape := ⟨2, ![128, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S2x128x7168, .bf16⟩
  | .hbm, ⟨1, _⟩ => ⟨S3584x18432, .i8⟩
  | .hbm, ⟨2, _⟩ => ⟨S56x18432, .bf16⟩
  | .hbm, ⟨3, _⟩ => ⟨S3584x18432, .i8⟩
  | .hbm, ⟨4, _⟩ => ⟨S56x18432, .bf16⟩
  | .hbm, ⟨5, _⟩ => ⟨S256x7168, .bf16⟩
  | .hbm, ⟨6, _⟩ => ⟨S256x18432, .bf16⟩
  | .local _ .vmem, ⟨0, _⟩ => ⟨S256x7168, .bf16⟩
  | .local _ .vmem, ⟨1, _⟩ => ⟨S3584x512, .i8⟩
  | .local _ .vmem, ⟨2, _⟩ => ⟨S3584x512, .i8⟩
  | .local _ .vmem, ⟨3, _⟩ => ⟨S56x512, .bf16⟩
  | .local _ .vmem, ⟨4, _⟩ => ⟨S56x512, .bf16⟩
  | .local _ .vmem, ⟨5, _⟩ => ⟨S3584x512, .i8⟩
  | .local _ .vmem, ⟨6, _⟩ => ⟨S3584x512, .i8⟩
  | .local _ .vmem, ⟨7, _⟩ => ⟨S56x512, .bf16⟩
  | .local _ .vmem, ⟨8, _⟩ => ⟨S56x512, .bf16⟩
  | .local _ .vmem, ⟨9, _⟩ => ⟨S256x512, .bf16⟩
  | .local _ .vmem, ⟨10, _⟩ => ⟨S256x512, .bf16⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x128x7168 : Shape := ⟨3, ![2, 128, 7168]⟩
abbrev S3584x18432 : Shape := ⟨2, ![3584, 18432]⟩
abbrev S56x18432 : Shape := ⟨2, ![56, 18432]⟩
abbrev S2x128x3584 : Shape := ⟨3, ![2, 128, 3584]⟩
abbrev S_ : Shape := ⟨0, ![]⟩
abbrev S56x64x18432 : Shape := ⟨3, ![56, 64, 18432]⟩
abbrev S2x128x18432 : Shape := ⟨3, ![2, 128, 18432]⟩
abbrev S256x18432 : Shape := ⟨2, ![256, 18432]⟩

abbrev nBuf : Space → Nat
  | .hbm => 67
  | .vmem => 0
  | .smem => 0
  | _ => 0

abbrev bufTy : (tb : Table) → Fin (tcTables nBuf tb) → BufTy
  | .hbm, ⟨0, _⟩ => ⟨S2x128x7168, .bf16⟩
  | .hbm, ⟨1, _⟩ => ⟨S3584x18432, .i8⟩
  | .hbm, ⟨2, _⟩ => ⟨S56x18432, .bf16⟩
  | .hbm, ⟨3, _⟩ => ⟨S3584x18432, .i8⟩
  | .hbm, ⟨4, _⟩ => ⟨S56x18432, .bf16⟩
  | .hbm, ⟨5, _⟩ => ⟨S2x128x3584, .bf16⟩
  | .hbm, ⟨6, _⟩ => ⟨S2x128x3584, .bf16⟩
  | .hbm, ⟨7, _⟩ => ⟨S3584x18432, .i32⟩
  | .hbm, ⟨8, _⟩ => ⟨S_, .i32⟩
  | .hbm, ⟨9, _⟩ => ⟨S3584x18432, .i32⟩
  | .hbm, ⟨10, _⟩ => ⟨S3584x18432, .i32⟩
  | .hbm, ⟨11, _⟩ => ⟨S_, .i32⟩
  | .hbm, ⟨12, _⟩ => ⟨S3584x18432, .i32⟩
  | .hbm, ⟨13, _⟩ => ⟨S3584x18432, .i32⟩
  | .hbm, ⟨14, _⟩ => ⟨S56x64x18432, .bf16⟩
  | .hbm, ⟨15, _⟩ => ⟨S3584x18432, .bf16⟩
  | .hbm, ⟨16, _⟩ => ⟨S3584x18432, .bf16⟩
  | .hbm, ⟨17, _⟩ => ⟨S_, .bf16⟩
  | .hbm, ⟨18, _⟩ => ⟨S3584x18432, .bf16⟩
  | .hbm, ⟨19, _⟩ => ⟨S3584x18432, .bf16⟩
  | .hbm, ⟨20, _⟩ => ⟨S3584x18432, .bf16⟩
  | .hbm, ⟨21, _⟩ => ⟨S56x64x18432, .bf16⟩
  | .hbm, ⟨22, _⟩ => ⟨S3584x18432, .bf16⟩
  | .hbm, ⟨23, _⟩ => ⟨S3584x18432, .bf16⟩
  | .hbm, ⟨24, _⟩ => ⟨S_, .bf16⟩
  | .hbm, ⟨25, _⟩ => ⟨S3584x18432, .bf16⟩
  | .hbm, ⟨26, _⟩ => ⟨S3584x18432, .bf16⟩
  | .hbm, ⟨27, _⟩ => ⟨S3584x18432, .bf16⟩
  | .hbm, ⟨28, _⟩ => ⟨S2x128x18432, .f32⟩
  | .hbm, ⟨29, _⟩ => ⟨S2x128x18432, .f32⟩
  | .hbm, ⟨30, _⟩ => ⟨S2x128x18432, .f32⟩
  | .hbm, ⟨31, _⟩ => ⟨S3584x18432, .i32⟩
  | .hbm, ⟨32, _⟩ => ⟨S_, .i32⟩
  | .hbm, ⟨33, _⟩ => ⟨S3584x18432, .i32⟩
  | .hbm, ⟨34, _⟩ => ⟨S3584x18432, .i32⟩
  | .hbm, ⟨35, _⟩ => ⟨S_, .i32⟩
  | .hbm, ⟨36, _⟩ => ⟨S3584x18432, .i32⟩
  | .hbm, ⟨37, _⟩ => ⟨S3584x18432, .i32⟩
  | .hbm, ⟨38, _⟩ => ⟨S56x64x18432, .bf16⟩
  | .hbm, ⟨39, _⟩ => ⟨S3584x18432, .bf16⟩
  | .hbm, ⟨40, _⟩ => ⟨S3584x18432, .bf16⟩
  | .hbm, ⟨41, _⟩ => ⟨S_, .bf16⟩
  | .hbm, ⟨42, _⟩ => ⟨S3584x18432, .bf16⟩
  | .hbm, ⟨43, _⟩ => ⟨S3584x18432, .bf16⟩
  | .hbm, ⟨44, _⟩ => ⟨S3584x18432, .bf16⟩
  | .hbm, ⟨45, _⟩ => ⟨S56x64x18432, .bf16⟩
  | .hbm, ⟨46, _⟩ => ⟨S3584x18432, .bf16⟩
  | .hbm, ⟨47, _⟩ => ⟨S3584x18432, .bf16⟩
  | .hbm, ⟨48, _⟩ => ⟨S_, .bf16⟩
  | .hbm, ⟨49, _⟩ => ⟨S3584x18432, .bf16⟩
  | .hbm, ⟨50, _⟩ => ⟨S3584x18432, .bf16⟩
  | .hbm, ⟨51, _⟩ => ⟨S3584x18432, .bf16⟩
  | .hbm, ⟨52, _⟩ => ⟨S2x128x18432, .f32⟩
  | .hbm, ⟨53, _⟩ => ⟨S2x128x18432, .f32⟩
  | .hbm, ⟨54, _⟩ => ⟨S2x128x18432, .f32⟩
  | .hbm, ⟨55, _⟩ => ⟨S2x128x18432, .f32⟩
  | .hbm, ⟨56, _⟩ => ⟨S2x128x18432, .f32⟩
  | .hbm, ⟨57, _⟩ => ⟨S_, .f32⟩
  | .hbm, ⟨58, _⟩ => ⟨S2x128x18432, .f32⟩
  | .hbm, ⟨59, _⟩ => ⟨S2x128x18432, .f32⟩
  | .hbm, ⟨60, _⟩ => ⟨S_, .f32⟩
  | .hbm, ⟨61, _⟩ => ⟨S2x128x18432, .f32⟩
  | .hbm, ⟨62, _⟩ => ⟨S2x128x18432, .f32⟩
  | .hbm, ⟨63, _⟩ => ⟨S2x128x18432, .f32⟩
  | .hbm, ⟨64, _⟩ => ⟨S2x128x18432, .f32⟩
  | .hbm, ⟨65, _⟩ => ⟨S2x128x18432, .bf16⟩
  | .hbm, ⟨66, _⟩ => ⟨S256x18432, .bf16⟩
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Proof.Codes.lean ====
/-
  THE CODES. A byte holds two four-bit codes, the low one the earlier row's. The kernel reads a tile of bytes as words,
  flips the top bit of every four-bit field of a word, and reads each field as a signed integer, which is the code less
  eight. This module proves that, element by element: the entry of the decoded tile in row `k` is code `k % 2` of the byte
  in row `k / 2`, less eight.
-/
module

public import proofs.«01_k».proof.Proof.Gen.KernelIdeal.Skeleton
public import Idealize.ShloMosaic.Lib.BitcastPair
public import Idealize.ShloMosaic.Lib.BitcastFour
public import Idealize.ShloMosaic.Lib.ValueIdxCore
public import Idealize.ShloMosaic.PureOps.Ideal

@[expose] public section

noncomputable section

namespace Cert.Proof

open Idealize.ShloMosaic Idealize.ShloMosaic.ValueIdx Cert.KernelIdeal Cert.KernelIdeal.Gen

/-- Code `p` of the byte `b` (`p = 0` the low four bits, `p = 1` the high four), less eight. -/
def code (b : BitVec 8) (p : Nat) : Int := ((b.toNat / 16 ^ p % 16 : Nat) : Int) - 8

/-- A byte's two signed four-bit fields, each widened to sixteen bits, the low field in the low half of the word. -/
def fields (b : BitVec 8) : BitVec 32 :=
  IntOp.ori (IntOp.andi (IntOp.shrsi .vector (IntOp.shli .vector (b.signExtend 32) 28#32) 28#32) 65535#32)
    (IntOp.shli .vector (IntOp.shrsi .vector (b.signExtend 32) 4#32) 16#32)

/-- With the top bit of both fields flipped, half `p` of the word is code `p` less eight. -/
theorem fields_flip : ∀ (b : BitVec 8) (p : Fin 2),
    ((fields (b ^^^ 136#8)).extractLsb' (16 * p.val) 16).toInt = code b p.val := by
  decide +kernel

/-- Bit `n` of the flipping word is bit `n % 8` of the flipping byte. -/
theorem flip_bit : ∀ n : Fin 32, (2290649224#32).getLsbD n.val = (136#8).getLsbD (n.val % 8) := by
  decide +kernel

/-- Flipping the words of a tile of bytes flips every byte of it. -/
theorem flip_tile (x : S3584x512.Idx → BitVec 8) (a : Fin 3584) (l : Fin 512) :
    bitcast S3584x512 8 (xori (bitcast S896x512 32 x bitcasts_S3584x512_w8_S896x512_w32) (broadcast S896x512 2290649224#32))
      bitcasts_S896x512_w32_S3584x512_w8 (ix2 a l) = x (ix2 a l) ^^^ 136#8 := by
  apply BitVec.eq_of_getLsbD_eq
  intro q hq
  have ha := a.isLt
  have hrow : Shape.row S3584x512 (ix2 a l) = a.val := rfl
  rw [bitcast_getLsbD _ bitcasts_S896x512_w32_S3584x512_w8 _ q hq (by decide)]
  have hsrc : ∀ h, Shape.Bitcasts.srcIdx bitcasts_S896x512_w32_S3584x512_w8 (ix2 a l) ((S3584x512.row (ix2 a l) * 8 + q) / 32) h
      = (ix2 (⟨a.val / 4, by omega⟩ : Fin 896) l : S896x512.Idx) := by
    intro h
    funext c
    match c with
    | ⟨0, _⟩ => exact Fin.ext ((Shape.Bitcasts.srcIdx_row _ _ _ _ ⟨0, Nat.zero_lt_two⟩ rfl).trans
        (by rw [hrow]; show (a.val * 8 + q) / 32 = a.val / 4; omega))
    | ⟨1, _⟩ => exact Fin.ext (Shape.Bitcasts.srcIdx_other _ _ _ _ ⟨1, Nat.one_lt_two⟩ (by show ¬ 1 + 2 = 2; omega))
  rw [hsrc]
  have hw : xori (bitcast S896x512 32 x bitcasts_S3584x512_w8_S896x512_w32) (broadcast S896x512 2290649224#32)
      (ix2 (⟨a.val / 4, by omega⟩ : Fin 896) l)
      = bitcast S896x512 32 x bitcasts_S3584x512_w8_S896x512_w32 (ix2 (⟨a.val / 4, by omega⟩ : Fin 896) l) ^^^ 2290649224#32 := rfl
  have hm : (a.val * 8 + q) % 32 < 32 := Nat.mod_lt _ (by decide)
  rw [hw, BitVec.getLsbD_xor, BitVec.getLsbD_xor, hrow,
    bitcast_8_32_getLsbD_ix2 x _ _ _ _ hm a (by show a.val = 4 * (a.val / 4) + (a.val * 8 + q) % 32 / 8; omega),
    flip_bit ⟨_, hm⟩]
  have e : (a.val * 8 + q) % 32 % 8 = q := by omega
  show (_ ^^ (136#8).getLsbD ((a.val * 8 + q) % 32 % 8)) = _
  rw [e]

/-- THE DECODED TILE at row `k`, column `l`: code `k % 2` of the byte in row `k / 2`, less eight. -/
theorem decoded_apply (x : S3584x512.Idx → BitVec 8) (k : Fin 7168) (l : Fin 512) :
    k0_pay12 (F := Ideal) x (ix2 k l)
      = (((code (x (ix2 (⟨k.val / 2, by omega⟩ : Fin 3584) l)) (k.val % 2) : Int) : ℝ) : EReal) := by
  have hdef : k0_pay12 (F := Ideal) x (ix2 k l) = (((bitcast S7168x512 16
      (fun i => fields (bitcast S3584x512 8 (xori (bitcast S896x512 32 x bitcasts_S3584x512_w8_S896x512_w32)
        (broadcast S896x512 2290649224#32)) bitcasts_S896x512_w32_S3584x512_w8 i))
      bitcasts_S3584x512_w32_S7168x512_w16 (ix2 k l)).toInt : ℝ) : EReal) := rfl
  rw [hdef, bitcast_32_16]
  have hk := k.isLt
  have hrow : Shape.row S7168x512 (ix2 k l) = k.val := rfl
  have hsrc : ∀ h, Shape.Bitcasts.srcIdx bitcasts_S3584x512_w32_S7168x512_w16 (ix2 k l) (S7168x512.row (ix2 k l) / 2) h
      = (ix2 (⟨k.val / 2, by omega⟩ : Fin 3584) l : S3584x512.Idx) := by
    intro h
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  rw [hsrc, hrow]
  rw [flip_tile, fields_flip _ ⟨k.val % 2, by omega⟩]

end Cert.Proof

end
-- ==== Proof.Weights.lean ====
/-
  THE WEIGHTS OF ONE TILE. The kernel takes the decoded tile apart into 56 groups of 128 rows, multiplies each by its row of
  scales, and puts the groups back together. This module states that as one function of the decoded tile and the scales,
  reads it at an index, and shows that what a grid point stores is written with it, for the gate and for the up weights.
-/
module

public import proofs.«01_k».proof.Proof.Codes
public import proofs.«01_k».proof.Proof.Gen.KernelIdeal.Frame
public import Idealize.ShloMosaic.Lib.Pipeline.Value
public import Idealize.ShloMosaic.Lib.ValueIdx

@[expose] public section

noncomputable section

namespace Cert.Proof

open Idealize.ShloMosaic Idealize.ShloMosaic.ValueIdx Cert.KernelIdeal Cert.KernelIdeal.Gen

variable {F : FTy → Type} [FloatOps F]

/-- Group `g`'s rows lie inside the tile. -/
theorem slices_rows (g : Fin 56) : S7168x512.Slices ![128 * g.val, 0] S128x512 :=
  ⟨rfl, fun a => match a with
    | ⟨0, _⟩ => by show 128 * g.val + 128 ≤ 7168; omega
    | ⟨1, _⟩ => by show 0 + 512 ≤ 512; omega⟩

/-- Group `g`'s row of scales lies inside the scales. -/
theorem slices_scale (g : Fin 56) : S56x512.Slices ![g.val, 0] S1x512 :=
  ⟨rfl, fun a => match a with
    | ⟨0, _⟩ => by show g.val + 1 ≤ 56; omega
    | ⟨1, _⟩ => by show 0 + 512 ≤ 512; omega⟩

/-- Group `g` of the decoded tile `q`, times its row of the scales `s`. -/
def group (q : FVec F S7168x512 .bf16) (s : FVec F S56x512 .bf16) (g : Fin 56) : FVec F S128x512 .bf16 :=
  mulf (extractStridedSlice S128x512 ![128 * g.val, 0] q (slices_rows g))
    (broadcastTo S128x512 (extractStridedSlice S1x512 ![g.val, 0] s (slices_scale g)) broadcasts_S1x512_S128x512)

/-- 56 groups of 128 rows make up the tile. -/
theorem groups_tile (f : Fin 56 → FVec F S128x512 .bf16) :
    Shape.Concatenates ((List.ofFn fun n : Fin 56 => (⟨S128x512, f n⟩ : (s : Shape) × (s.Idx → F .bf16))).map (·.1)) S7168x512 0 := by
  rw [List.map_ofFn]
  show Shape.Concatenates (List.ofFn fun _ : Fin 56 => S128x512) S7168x512 0
  decide +kernel

/-- The scaled groups put back together: the tile's weights. -/
def weights (q : FVec F S7168x512 .bf16) (s : FVec F S56x512 .bf16) : FVec F S7168x512 .bf16 :=
  concatenate S7168x512 0 (List.ofFn fun g : Fin 56 => ⟨S128x512, group q s g⟩) (groups_tile (group q s))

/-- THE WEIGHTS at row `k`, column `l`: the decoded entry there times the scale of the row's group. -/
theorem weights_apply (q : FVec Ideal S7168x512 .bf16) (s : FVec Ideal S56x512 .bf16) (k : Fin 7168) (l : Fin 512) :
    weights q s (ix2 k l) = q (ix2 k l) * s (ix2 (⟨k.val / 128, by omega⟩ : Fin 56) l) := by
  have hk := k.isLt
  unfold weights
  rw [concatenate_ofFn_apply (t := S7168x512) (s₁ := S128x512) 0 (group q s) _ rfl 128 rfl (ix2 k l) ⟨k.val / 128, by omega⟩ rfl
    (ix2 (⟨k.val % 128, by omega⟩ : Fin 128) l) rfl (fun b hb => match b with
      | ⟨0, _⟩ => absurd rfl hb
      | ⟨1, _⟩ => rfl)]
  unfold group
  rw [mulf_apply]
  congr 1
  · exact extractStridedSlice_apply _ _ _ _ _ (fun a => match a with
      | ⟨0, _⟩ => by show k.val = 128 * (k.val / 128) + k.val % 128; omega
      | ⟨1, _⟩ => by show l.val = 0 + l.val; omega)
  · rw [broadcastTo_apply _ _ _ (ix2 (0 : Fin 1) l) (fun a => match a with
      | ⟨0, _⟩ => rfl
      | ⟨1, _⟩ => rfl)]
    exact extractStridedSlice_apply _ _ _ _ _ (fun a => match a with
      | ⟨0, _⟩ => by show k.val / 128 = k.val / 128 + 0; omega
      | ⟨1, _⟩ => by show l.val = 0 + l.val; omega)

/-- What a grid point stores, from its tiles: the gate product times its logistic times the up product, the two products
    taken over the weights of the two tiles. -/
theorem stored_eq (x0 : Vec F S256x7168 .bf16) (x1 : Vec F S3584x512 .i8) (x2 : Vec F S56x512 .bf16)
    (x3 : Vec F S3584x512 .i8) (x4 : Vec F S56x512 .bf16) :
    out0_5 x0 x1 x2 x3 x4 = View.canon [⟨r0_3, k0_pay10 (k0_pay11 (View.ld x0 r0_0))
      (matmul dot_S256x7168_S7168x512_S256x512_1_0_0_1_n_n none (k0_pay11 (View.ld x0 r0_0))
        (weights (k0_pay12 (View.ld x1 r0_1)) (View.ld x2 r0_2)) (constant S256x512 .f32 0x00000000#32))
      (weights (k0_pay12 (View.ld x3 r0_1)) (View.ld x4 r0_2))⟩] := rfl

end Cert.Proof

end
-- ==== Proof.Block.lean ====
/-
  WHAT ONE BLOCK COMPUTES. A grid point stores, at row `r` and column `l` of its block, the gate product times its logistic
  times the up product; each product is a sum over the 7168 input features of the activation times the weight, and the
  weight is code `k % 2` of the byte in row `k / 2`, less eight, times the scale of group `k / 128`.
-/
module

public import proofs.«01_k».proof.Proof.Weights
public import Idealize.ShloMosaic.Lib.Pipeline.ValueKit.Basic
public import Idealize.ShloMosaic.Lib.Pointwise.Contract
public import Idealize.ShloMosaic.PureOps.Ideal.Laws

@[expose] public section

noncomputable section

namespace Cert.Proof

open Idealize.ShloMosaic hiding ix2
open Idealize.ShloMosaic.ValueIdx Cert.KernelIdeal Cert.KernelIdeal.Gen

/-- A weight: code `p` of the byte `b`, less eight, times the scale `s`. -/
def weight (b : BitVec 8) (p : Nat) (s : EReal) : EReal := ((code b p : ℝ) : EReal) * s

/-- The gated product: the gate times its logistic, times the up product. -/
def gated (g u : EReal) : EReal := g * Ideal.logistic g * u

/-- A product into a zero accumulator, at an index: the sum over the features. -/
theorem product_apply (x : FVec Ideal S256x7168 .bf16) (w : FVec Ideal S7168x512 .bf16) (r : Fin 256) (l : Fin 512) :
    matmul dot_S256x7168_S7168x512_S256x512_1_0_0_1_n_n none x w (constant S256x512 .f32 0x00000000#32) (ix2 r l)
      = ∑ k : Fin 7168, x (ix2 r k) * w (ix2 k l) := by
  show Ideal.matmul dot_S256x7168_S7168x512_S256x512_1_0_0_1_n_n x w _ (ix2 r l) = _
  rw [Ideal.matmul_apply₁_of dot_S256x7168_S7168x512_S256x512_1_0_0_1_n_n (a := 1) rfl (K := 7168) rfl x w _ (ix2 r l)
    (fun k => ix2 r k) (fun k => ix2 k l)
    (fun k => funext fun a => match a with
      | ⟨0, _⟩ => rfl
      | ⟨1, _⟩ => rfl)
    (fun k => funext fun a => match a with
      | ⟨0, _⟩ => rfl
      | ⟨1, _⟩ => rfl)]
  rw [constant_apply, show Ideal.ofBits .f32 0x00000000#32 = 0 by simp [Ideal.ofBits, Ideal.ieee], zero_add]

/-- The end of the body at an index: the gate `g` there times its logistic, times the product over the up weights. -/
theorem gated_tile_apply (x : FVec Ideal S256x7168 .bf16) (g : FVec Ideal S256x512 .f32) (w : FVec Ideal S7168x512 .bf16)
    (i : S256x512.Idx) : k0_pay10 x g w i = gated (g i)
      (matmul dot_S256x7168_S7168x512_S256x512_1_0_0_1_n_n none x w (constant S256x512 .f32 0x00000000#32) i) := rfl

/-- THE STORED BLOCK at row `r`, column `l`. -/
theorem stored_apply (x0 : Vec Ideal S256x7168 .bf16) (x1 : Vec Ideal S3584x512 .i8) (x2 : Vec Ideal S56x512 .bf16)
    (x3 : Vec Ideal S3584x512 .i8) (x4 : Vec Ideal S56x512 .bf16) (r : Fin 256) (l : Fin 512) :
    out0_5 x0 x1 x2 x3 x4 (ix2 r l) = gated
      (∑ k : Fin 7168, x0 (ix2 r k) * weight (x1 (ix2 (⟨k.val / 2, by omega⟩ : Fin 3584) l)) (k.val % 2)
        (x2 (ix2 (⟨k.val / 128, by omega⟩ : Fin 56) l)))
      (∑ k : Fin 7168, x0 (ix2 r k) * weight (x3 (ix2 (⟨k.val / 2, by omega⟩ : Fin 3584) l)) (k.val % 2)
        (x4 (ix2 (⟨k.val / 128, by omega⟩ : Fin 56) l))) := by
  have hx : View.ld x0 r0_0 = x0 := View.ld_unit_lit _ _ (by decide)
  have h1 : View.ld x1 r0_1 = x1 := View.ld_unit_lit _ _ (by decide)
  have h3 : View.ld x3 r0_1 = x3 := View.ld_unit_lit _ _ (by decide)
  have h2 : View.ld x2 r0_2 = x2 := View.ld_unit_lit _ _ (by decide)
  have h4 : View.ld x4 r0_2 = x4 := View.ld_unit_lit _ _ (by decide)
  have hs : k0_pay11 x0 = x0 := shapeCast_self x0 _
  rw [stored_eq, View.canon_cons_unit_lit _ _ _ (by decide), hx, h1, h2, h3, h4, hs]
  rw [gated_tile_apply, product_apply, product_apply]
  simp only [weights_apply, decoded_apply]
  rfl

end Cert.Proof

end
-- ==== Proof.Array.lean ====
/-
  WHAT THE ARRAY HOLDS. The grid's 36 points cut the result into 36 blocks of 512 columns, and each takes the same columns of
  the codes and of the scales and the whole of the activations. So the result array is one function of the arguments, stated
  here (`swiglu`) at a row and a column.
-/
module

public import proofs.«01_k».proof.Proof.Block
public import proofs.«01_k».proof.Proof.Gen.KernelIdeal.Value
public import Idealize.ShloMosaic.Lib.Pipeline.ValueKit.Basic

@[expose] public section

noncomputable section

namespace Cert.Proof

open Idealize.ShloMosaic hiding ix2
open Idealize.ShloMosaic.ValueIdx Idealize.ShloMosaic.TcCoe Idealize.SL.Sem Cert.KernelIdeal Cert.KernelIdeal.Gen
  Cert.KernelIdeal.Value

/-- Row `r` of the 256 rows, feature `k`, in the activations as given: 2 batches of 128 rows. -/
def act (r : Fin 256) (k : Fin 7168) : S2x128x7168.Idx := fun a => match a with
  | ⟨0, _⟩ => (⟨r.val / 128, by omega⟩ : Fin 2)
  | ⟨1, _⟩ => (⟨r.val % 128, by omega⟩ : Fin 128)
  | ⟨2, _⟩ => k

/-- A projection at row `r`, column `n`: the sum over the features of the activation times the weight, which is code `k % 2`
    of the byte in row `k / 2`, less eight, times the scale of group `k / 128`. -/
def projection (x : S2x128x7168.Idx → EReal) (b : S3584x18432.Idx → BitVec 8) (s : S56x18432.Idx → EReal) (r : Fin 256)
    (n : Fin 18432) : EReal :=
  ∑ k : Fin 7168, x (act r k) * weight (b (ix2 (⟨k.val / 2, by omega⟩ : Fin 3584) n)) (k.val % 2)
    (s (ix2 (⟨k.val / 128, by omega⟩ : Fin 56) n))

/-- THE RESULT at a row and a column: the gate projection times its logistic times the up projection. -/
def swiglu (x : S2x128x7168.Idx → EReal) (b : S3584x18432.Idx → BitVec 8) (s : S56x18432.Idx → EReal)
    (b' : S3584x18432.Idx → BitVec 8) (s' : S56x18432.Idx → EReal) : S256x18432.Idx → EReal := fun i =>
  gated (projection x b s (i 0) (i 1)) (projection x b' s' (i 0) (i 1))

/-- Where the windows' blocks sit at point `t`: the activations' at the origin, every other at column block `t`. -/
theorem index_facts : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val) :=
  (by decide +kernel : ∀ t : Fin grid0.N, _)

/-- Column `l` of column block `t` is a column of the array. -/
theorem column_lt (t : Fin cfg0.N) (l : Fin 512) : t.val * 512 + l.val < 18432 := by
  have ht : t.val < 36 := t.isLt
  omega

/-- Column `l` of column block `t`. -/
def column (t : Fin cfg0.N) (l : Fin 512) : Fin 18432 := ⟨t.val * 512 + l.val, column_lt t l⟩

/-- The activations' block is their whole array. -/
theorem emb_act (t : Fin cfg0.N) (r : Fin 256) (k : Fin 7168) :
    ((cfg0.win 0).blk t).view.emb (ix2 r k : S256x7168.Idx) = (ix2 r k : S256x7168.Idx) := by
  obtain ⟨⟨e0, e1⟩, -⟩ := index_facts t
  funext a
  apply Fin.ext
  match a with
  | ⟨0, _⟩ => show win0_0.index t (0 : Fin 2) * 256 + 1 * r.val = r.val; omega
  | ⟨1, _⟩ => show win0_0.index t (1 : Fin 2) * 7168 + 1 * k.val = k.val; omega

/-- The gate codes' block at point `t` is column block `t` of their array. -/
theorem emb_gate_codes (t : Fin cfg0.N) (p : Fin 3584) (l : Fin 512) :
    ((cfg0.win 1).blk t).view.emb (ix2 p l : S3584x512.Idx) = (ix2 p (column t l) : S3584x18432.Idx) := by
  obtain ⟨-, ⟨e0, e1⟩, -⟩ := index_facts t
  funext a
  apply Fin.ext
  match a with
  | ⟨0, _⟩ => show win0_1.index t (0 : Fin 2) * 3584 + 1 * p.val = p.val; omega
  | ⟨1, _⟩ => show win0_1.index t (1 : Fin 2) * 512 + 1 * l.val = t.val * 512 + l.val; omega

/-- The gate scales' block at point `t` is column block `t` of their array. -/
theorem emb_gate_scales (t : Fin cfg0.N) (p : Fin 56) (l : Fin 512) :
    ((cfg0.win 2).blk t).view.emb (ix2 p l : S56x512.Idx) = (ix2 p (column t l) : S56x18432.Idx) := by
  obtain ⟨-, -, ⟨e0, e1⟩, -⟩ := index_facts t
  funext a
  apply Fin.ext
  match a with
  | ⟨0, _⟩ => show win0_2.index t (0 : Fin 2) * 56 + 1 * p.val = p.val; omega
  | ⟨1, _⟩ => show win0_2.index t (1 : Fin 2) * 512 + 1 * l.val = t.val * 512 + l.val; omega

/-- The up codes' block at point `t` is column block `t` of their array. -/
theorem emb_up_codes (t : Fin cfg0.N) (p : Fin 3584) (l : Fin 512) :
    ((cfg0.win 3).blk t).view.emb (ix2 p l : S3584x512.Idx) = (ix2 p (column t l) : S3584x18432.Idx) := by
  obtain ⟨-, -, -, ⟨e0, e1⟩, -⟩ := index_facts t
  funext a
  apply Fin.ext
  match a with
  | ⟨0, _⟩ => show win0_3.index t (0 : Fin 2) * 3584 + 1 * p.val = p.val; omega
  | ⟨1, _⟩ => show win0_3.index t (1 : Fin 2) * 512 + 1 * l.val = t.val * 512 + l.val; omega

/-- The up scales' block at point `t` is column block `t` of their array. -/
theorem emb_up_scales (t : Fin cfg0.N) (p : Fin 56) (l : Fin 512) :
    ((cfg0.win 4).blk t).view.emb (ix2 p l : S56x512.Idx) = (ix2 p (column t l) : S56x18432.Idx) := by
  obtain ⟨-, -, -, -, ⟨e0, e1⟩, -⟩ := index_facts t
  funext a
  apply Fin.ext
  match a with
  | ⟨0, _⟩ => show win0_4.index t (0 : Fin 2) * 56 + 1 * p.val = p.val; omega
  | ⟨1, _⟩ => show win0_4.index t (1 : Fin 2) * 512 + 1 * l.val = t.val * 512 + l.val; omega

/-- The result's block at point `t` is column block `t` of its array. -/
theorem emb_result (t : Fin cfg0.N) (r : Fin 256) (l : Fin 512) :
    ((cfg0.win 5).blk t).view.emb (ix2 r l : S256x512.Idx) = (ix2 r (column t l) : S256x18432.Idx) := by
  obtain ⟨-, -, -, -, -, ⟨e0, e1⟩⟩ := index_facts t
  funext a
  apply Fin.ext
  match a with
  | ⟨0, _⟩ => show win0_5.index t (0 : Fin 2) * 256 + 1 * r.val = r.val; omega
  | ⟨1, _⟩ => show win0_5.index t (1 : Fin 2) * 512 + 1 * l.val = t.val * 512 + l.val; omega

variable (m : (ℓ : Loc nD τ sig) → Buf (Elt Ideal) ℓ) (ρ : Dev nD → PrngReg)

/-- The grid finds the activations laid out as 256 rows: row `r` is row `r % 128` of batch `r / 128`. -/
theorem rows_apply (c : Dev nD) (r : Fin 256) (k : Fin 7168) :
    V m c main_v0 (ix2 r k : S256x7168.Idx) = m ((c : Thread nD τ).loc main_arg0) (act r k) := by
  have e : V m c main_v0 = shapeCast S256x7168 (m ((c : Thread nD τ).loc main_arg0)) shapeCasts_S2x128x7168_S256x7168 := by
    unfold V
    after_results_simp
    rfl
  rw [e]
  refine shapeCast_apply _ _ _ (act r k) ?_
  rw [Shape.rowMajor_val_three, Shape.rowMajor_val_two]
  show (r.val / 128 * 128 + r.val % 128) * 7168 + k.val = r.val * 7168 + k.val
  omega

/-- What point `t` writes back is column block `t` of `swiglu` of the arguments. -/
theorem flushed_eq (c : Dev nD) (t : Fin cfg0.N) : (dats m 0 c).flushed 5 t = ((cfg0.win 5).blk t).view.read (Elt Ideal)
    (swiglu (m ((c : Thread nD τ).loc main_arg0)) (m ((c : Thread nD τ).loc main_arg1)) (m ((c : Thread nD τ).loc main_arg2))
      (m ((c : Thread nD τ).loc main_arg3)) (m ((c : Thread nD τ).loc main_arg4))) := by
  rw [flushed5]
  funext j
  suffices h : ∀ (r : Fin 256) (l : Fin 512),
      out0_5 (iblk m c 0 t) (iblk m c 1 t) (iblk m c 2 t) (iblk m c 3 t) (iblk m c 4 t) (ix2 r l)
        = swiglu (m ((c : Thread nD τ).loc main_arg0)) (m ((c : Thread nD τ).loc main_arg1)) (m ((c : Thread nD τ).loc main_arg2))
          (m ((c : Thread nD τ).loc main_arg3)) (m ((c : Thread nD τ).loc main_arg4))
          (((cfg0.win 5).blk t).view.emb (ix2 r l : S256x512.Idx)) by
    obtain ⟨r, l, rfl⟩ : ∃ (r : Fin 256) (l : Fin 512), j = (ix2 r l : S256x512.Idx) := ⟨j 0, j 1, ValueIdx.eq_ix2 (j : S256x512.Idx)⟩
    exact h r l
  intro r l
  rw [stored_apply, emb_result]
  have h0 : ∀ k, iblk m c 0 t (ix2 r k : S256x7168.Idx) = m ((c : Thread nD τ).loc main_arg0) (act r k) := fun k => by
    show V m c main_v0 (((cfg0.win 0).blk t).view.emb (ix2 r k : S256x7168.Idx)) = _
    rw [emb_act, rows_apply]
  have h1 : ∀ p, iblk m c 1 t (ix2 p l : S3584x512.Idx) = m ((c : Thread nD τ).loc main_arg1) (ix2 p (column t l)) := fun p => by
    show V m c main_arg1 (((cfg0.win 1).blk t).view.emb (ix2 p l : S3584x512.Idx)) = _
    rw [emb_gate_codes, V_main_arg1]
  have h2 : ∀ p, iblk m c 2 t (ix2 p l : S56x512.Idx) = m ((c : Thread nD τ).loc main_arg2) (ix2 p (column t l)) := fun p => by
    show V m c main_arg2 (((cfg0.win 2).blk t).view.emb (ix2 p l : S56x512.Idx)) = _
    rw [emb_gate_scales, V_main_arg2]
  have h3 : ∀ p, iblk m c 3 t (ix2 p l : S3584x512.Idx) = m ((c : Thread nD τ).loc main_arg3) (ix2 p (column t l)) := fun p => by
    show V m c main_arg3 (((cfg0.win 3).blk t).view.emb (ix2 p l : S3584x512.Idx)) = _
    rw [emb_up_codes, V_main_arg3]
  have h4 : ∀ p, iblk m c 4 t (ix2 p l : S56x512.Idx) = m ((c : Thread nD τ).loc main_arg4) (ix2 p (column t l)) := fun p => by
    show V m c main_arg4 (((cfg0.win 4).blk t).view.emb (ix2 p l : S56x512.Idx)) = _
    rw [emb_up_scales, V_main_arg4]
  unfold swiglu projection
  refine congrArg₂ gated (Finset.sum_congr rfl fun k _ => ?_) (Finset.sum_congr rfl fun k _ => ?_)
  · rw [h0, h1, h2]
  · rw [h0, h3, h4]

/-- Every index of the result is in some point's block: column `n` in block `n / 512`. -/
theorem covered (i : S256x18432.Idx) : ∃ t : Fin cfg0.N, (cfg0.win 5).flush t = true ∧ i ∈ ((cfg0.win 5).blk t).view.set := by
  have hc : (i 1).val < 18432 := (i 1).isLt
  let t : Fin cfg0.N := ⟨(i 1).val / 512, by show (i 1).val / 512 < 36; omega⟩
  have h : ∀ (r : Fin 256) (l : Fin 512), (ix2 r (column t l) : S256x18432.Idx) ∈ ((cfg0.win 5).blk t).view.set := fun r l => by
    rw [← emb_result]
    exact ((cfg0.win 5).blk t).view.emb_mem_set _
  have e : (ix2 (i 0) (column t (⟨(i 1).val % 512, by omega⟩ : Fin 512)) : S256x18432.Idx) = i := by
    funext a
    match a with
    | ⟨0, _⟩ => rfl
    | ⟨1, _⟩ => exact Fin.ext (by show (i 1).val / 512 * 512 + (i 1).val % 512 = (i 1).val; omega)
  exact ⟨t, flush0_5 t, e ▸ h (i 0) ⟨(i 1).val % 512, by omega⟩⟩

/-- The result array after the last grid point is `swiglu` of the arguments as launched. -/
theorem final_eq (c : Dev nD) : (dats m 0 c).arrAt 5 cfg0.N
    = swiglu (m ((c : Thread nD τ).loc main_arg0)) (m ((c : Thread nD τ).loc main_arg1)) (m ((c : Thread nD τ).loc main_arg2))
      (m ((c : Thread nD τ).loc main_arg3)) (m ((c : Thread nD τ).loc main_arg4)) :=
  (dats m 0 c).arrAt_eq_of_cover 5 _ (fun t _ => flushed_eq m c t) covered

end Cert.Proof

end
-- ==== Proof.Reference.lean ====
/-
  WHAT THE REFERENCE COMPUTES. The reference unpacks the low and the high codes of every byte into two fields of 3584 rows,
  multiplies each by the scale of its row's group (64 rows of a field to a group), and adds the product of the even features
  with the low field to that of the odd features with the high one. This module reads that at an index: a projection is the
  sum over the bytes' rows of the low codes' terms plus the sum of the high codes' terms.
-/
module

public import proofs.«01_k».proof.Proof.Array
public import proofs.«01_k».proof.Proof.Gen.ReferenceIdeal.Read

@[expose] public section

noncomputable section

namespace Cert.Proof.Ref

open Idealize.ShloMosaic hiding ix2
open Idealize.ShloMosaic.ValueIdx Cert.ReferenceIdeal Cert.ReferenceIdeal.Gen Cert.ReferenceIdeal.Read

/-- The low code of a byte, widened with zeros and masked, is code 0. -/
theorem low_code : ∀ b : BitVec 8, (IntOp.andi (b.setWidth 32) 15#32).toInt = code b 0 + 8 := by
  decide +kernel

/-- The high code of a byte, widened with zeros and shifted, is code 1. -/
theorem high_code : ∀ b : BitVec 8, (IntOp.shrsi .host (b.setWidth 32) 4#32).toInt = code b 1 + 8 := by
  decide +kernel

/-- The constant the reference subtracts is eight. -/
theorem eight : (Ideal.ofBits .bf16 0x4100#16 : EReal) = ((8 : ℝ) : EReal) := by
  simp [Ideal.ofBits, Ideal.ieee, -EReal.coe_mul]
  norm_num

/-- An integer eight too large, less eight. -/
theorem less_eight (z : Int) : (((z + 8 : Int) : ℝ) : EReal) - ((8 : ℝ) : EReal) = ((z : ℝ) : EReal) := by
  rw [← EReal.coe_sub]
  congr 1
  push_cast
  ring

/-- The even features. -/
theorem even_apply (x : S2x128x7168.Idx → EReal) (i : S2x128x3584.Idx) (j : S2x128x7168.Idx) (h0 : (j 0).val = (i 0).val)
    (h1 : (j 1).val = (i 1).val) (h2 : (j 2).val = 2 * (i 2).val) : val_main_v0 (F := Ideal) x i = x j := by
  unfold val_main_v0 Host.slice
  refine congrArg x (funext fun a => Fin.ext ?_)
  match a with
  | ⟨0, _⟩ => show 0 + 1 * (i 0).val = (j 0).val; omega
  | ⟨1, _⟩ => show 0 + 1 * (i 1).val = (j 1).val; omega
  | ⟨2, _⟩ => show 0 + 2 * (i 2).val = (j 2).val; omega

/-- The odd features. -/
theorem odd_apply (x : S2x128x7168.Idx → EReal) (i : S2x128x3584.Idx) (j : S2x128x7168.Idx) (h0 : (j 0).val = (i 0).val)
    (h1 : (j 1).val = (i 1).val) (h2 : (j 2).val = 2 * (i 2).val + 1) : val_main_v1 (F := Ideal) x i = x j := by
  unfold val_main_v1 Host.slice
  refine congrArg x (funext fun a => Fin.ext ?_)
  match a with
  | ⟨0, _⟩ => show 0 + 1 * (i 0).val = (j 0).val; omega
  | ⟨1, _⟩ => show 0 + 1 * (i 1).val = (j 1).val; omega
  | ⟨2, _⟩ => show 1 + 2 * (i 2).val = (j 2).val; omega

/-- The scale of row `p` of a field: group `p / 64`. -/
theorem scale_index (p : Fin 3584) (n : Fin 18432) :
    idx_main_v7 (idx_main_v8 (ix2 p n : S3584x18432.Idx)) = (ix2 (⟨p.val / 64, by omega⟩ : Fin 56) n : S56x18432.Idx) := by
  have hp := p.isLt
  have hn := n.isLt
  funext a
  match a with
  | ⟨0, _⟩ => exact Fin.ext (by show (p.val * 18432 + n.val) / 1179648 = p.val / 64; omega)
  | ⟨1, _⟩ => exact Fin.ext (by show (p.val * 18432 + n.val) % 18432 = n.val; omega)

/-- The low field's weight at row `p`, column `n`. -/
theorem low_weight (b : S3584x18432.Idx → BitVec 8) (s : S56x18432.Idx → EReal) (p : Fin 3584) (n : Fin 18432) :
    val_main_v12 (F := Ideal) b s (ix2 p n : S3584x18432.Idx)
      = weight (b (ix2 p n)) 0 (s (ix2 (⟨p.val / 64, by omega⟩ : Fin 56) n)) := by
  rw [val_main_v12_apply, val_main_v11_apply, val_main_v9_apply, val_main_v4_apply, val_main_v2_apply, val_main_v3_apply,
    val_main_c_apply, val_main_v10_apply, val_main_cst_apply, val_main_v8_apply, val_main_v7_apply, scale_index]
  show ((((IntOp.andi ((b (ix2 p n)).setWidth 32) 15#32).toInt : ℝ) : EReal) - Ideal.ofBits .bf16 0x4100#16) * _ = _
  rw [low_code, eight, less_eight]
  rfl

/-- The high field's weight at row `p`, column `n`. -/
theorem high_weight (b : S3584x18432.Idx → BitVec 8) (s : S56x18432.Idx → EReal) (p : Fin 3584) (n : Fin 18432) :
    val_main_v18 (F := Ideal) b s (ix2 p n : S3584x18432.Idx)
      = weight (b (ix2 p n)) 1 (s (ix2 (⟨p.val / 64, by omega⟩ : Fin 56) n)) := by
  have hs : idx_main_v13 (idx_main_v14 (ix2 p n : S3584x18432.Idx)) = idx_main_v7 (idx_main_v8 (ix2 p n : S3584x18432.Idx)) := rfl
  rw [val_main_v18_apply, val_main_v17_apply, val_main_v15_apply, val_main_v6_apply, val_main_v2_apply, val_main_v5_apply,
    val_main_c_0_apply, val_main_v16_apply, val_main_cst_1_apply, val_main_v14_apply, val_main_v13_apply, hs, scale_index]
  show ((((IntOp.shrsi .host ((b (ix2 p n)).setWidth 32) 4#32).toInt : ℝ) : EReal) - Ideal.ofBits .bf16 0x4100#16) * _ = _
  rw [high_code, eight, less_eight]
  rfl

/-- Where row `r`, column `n` of the flattened result lies among the 2 batches of 128 rows. -/
def place (r : Fin 256) (n : Fin 18432) : S2x128x18432.Idx := fun a => match a with
  | ⟨0, _⟩ => (⟨r.val / 128, by omega⟩ : Fin 2)
  | ⟨1, _⟩ => (⟨r.val % 128, by omega⟩ : Fin 128)
  | ⟨2, _⟩ => n

/-- The flattening reads there. -/
theorem place_eq (r : Fin 256) (n : Fin 18432) : idx_main_v45 (ix2 r n : S256x18432.Idx) = place r n := by
  have hr := r.isLt
  have hn := n.isLt
  funext a
  match a with
  | ⟨0, _⟩ => exact Fin.ext (by show (r.val * 18432 + n.val) / 2359296 = r.val / 128; omega)
  | ⟨1, _⟩ => exact Fin.ext (by show (r.val * 18432 + n.val) / 18432 % 128 = r.val % 128; omega)
  | ⟨2, _⟩ => exact Fin.ext (by show (r.val * 18432 + n.val) % 18432 = n.val; omega)

/-- THE REFERENCE'S PROJECTION at row `r`, column `n`: the low codes' terms over the even features, then the high codes'
    over the odd ones. -/
theorem projection_apply (x : S2x128x7168.Idx → EReal) (b : S3584x18432.Idx → BitVec 8) (s : S56x18432.Idx → EReal)
    (r : Fin 256) (n : Fin 18432) : val_main_v21 (F := Ideal) x b s (place r n)
      = (∑ p : Fin 3584, x (act r ⟨2 * p.val, by omega⟩) * weight (b (ix2 p n)) 0 (s (ix2 (⟨p.val / 64, by omega⟩ : Fin 56) n)))
        + ∑ p : Fin 3584, x (act r ⟨2 * p.val + 1, by omega⟩)
          * weight (b (ix2 p n)) 1 (s (ix2 (⟨p.val / 64, by omega⟩ : Fin 56) n)) := by
  have hl : ∀ p : Fin 3584, ridx_main_v19 (place r n) p = (ix2 p n : S3584x18432.Idx) := fun p => funext fun a => match a with
    | ⟨0, _⟩ => rfl
    | ⟨1, _⟩ => rfl
  have hh : ∀ p : Fin 3584, ridx_main_v20 (place r n) p = (ix2 p n : S3584x18432.Idx) := fun p => funext fun a => match a with
    | ⟨0, _⟩ => rfl
    | ⟨1, _⟩ => rfl
  rw [val_main_v21_apply, val_main_v19_apply, val_main_v20_apply]
  refine congrArg₂ (· + ·) (Finset.sum_congr rfl fun p _ => ?_) (Finset.sum_congr rfl fun p _ => ?_)
  · rw [hl, low_weight, even_apply x _ (act r ⟨2 * p.val, by omega⟩) rfl rfl rfl]
  · rw [hh, high_weight, odd_apply x _ (act r ⟨2 * p.val + 1, by omega⟩) rfl rfl rfl]

/-- The up projection is the gate projection's function of its own codes and scales. -/
theorem up_eq (x : S2x128x7168.Idx → EReal) (b : S3584x18432.Idx → BitVec 8) (s : S56x18432.Idx → EReal) :
    val_main_v41 (F := Ideal) x b s = val_main_v21 (F := Ideal) x b s := rfl

/-- THE REFERENCE'S RESULT at row `r`, column `n`: the gate projection times its logistic times the up projection. -/
theorem result_apply (x : S2x128x7168.Idx → EReal) (b : S3584x18432.Idx → BitVec 8) (s : S56x18432.Idx → EReal)
    (b' : S3584x18432.Idx → BitVec 8) (s' : S56x18432.Idx → EReal) (r : Fin 256) (n : Fin 18432) :
    val_main_v45 (F := Ideal) x b s b' s' (ix2 r n : S256x18432.Idx)
      = gated (val_main_v21 (F := Ideal) x b s (place r n)) (val_main_v21 (F := Ideal) x b' s' (place r n)) := by
  have one : (Ideal.ofBits .f32 0x3F800000#32 : EReal) = 1 := by
    simp [Ideal.ofBits, Ideal.ieee, -EReal.coe_mul]
    norm_num
  rw [val_main_v45_apply, place_eq, val_main_v44_apply, val_main_v43_apply, val_main_v42_apply, up_eq, val_main_call0_v5_apply,
    val_main_call0_v4_apply, val_main_call0_cst_0_apply, val_main_call0_v3_apply, val_main_call0_v2_apply,
    val_main_call0_cst_apply, val_main_call0_v1_apply, val_main_call0_v0_apply]
  show _ * Ideal.div (Ideal.ofBits .f32 0x3F800000#32) (Ideal.ofBits .f32 0x3F800000#32 + Ideal.exp (-_)) * _ = _
  rw [one]
  rfl

end Cert.Proof.Ref

end
-- ==== Proof.Equation.lean ====
/-
  THE EQUATION. A sum over the 7168 features is the sum over the even ones plus the sum over the odd ones; feature `2 p` and
  feature `2 p + 1` have the low and the high code of the byte in row `p`, and the same scale, that of group `p / 64`. So the
  reference's two sums are the kernel's one, and the results are equal.
-/
module

public import proofs.«01_k».proof.Proof.Reference

@[expose] public section

noncomputable section

namespace Cert.Proof

open Idealize.ShloMosaic hiding ix2
open Idealize.ShloMosaic.ValueIdx Cert.ReferenceIdeal Cert.ReferenceIdeal.Read

/-- A sum over the features, the even ones first and the odd ones then. -/
theorem sum_even_odd (f : Fin 7168 → EReal) :
    ∑ k, f k = (∑ p : Fin 3584, f ⟨2 * p.val, by omega⟩) + ∑ p : Fin 3584, f ⟨2 * p.val + 1, by omega⟩ := by
  rw [← Finset.sum_add_distrib, ← (finProdFinEquiv (m := 3584) (n := 2)).sum_comp, Fintype.sum_prod_type]
  refine Finset.sum_congr rfl fun p _ => ?_
  rw [Fin.sum_univ_two]
  refine congrArg₂ (· + ·) (congrArg f (Fin.ext ?_)) (congrArg f (Fin.ext ?_))
  · show 0 + 2 * p.val = 2 * p.val; omega
  · show 1 + 2 * p.val = 2 * p.val + 1; omega

/-- The reference's projection is the kernel's. -/
theorem projection_eq (x : S2x128x7168.Idx → EReal) (b : S3584x18432.Idx → BitVec 8) (s : S56x18432.Idx → EReal)
    (r : Fin 256) (n : Fin 18432) : val_main_v21 (F := Ideal) x b s (Ref.place r n) = projection x b s r n := by
  rw [Ref.projection_apply]
  unfold projection
  rw [sum_even_odd]
  refine congrArg₂ (· + ·) (Finset.sum_congr rfl fun p _ => ?_) (Finset.sum_congr rfl fun p _ => ?_)
  · have hb : (⟨2 * p.val / 2, by omega⟩ : Fin 3584) = p := Fin.ext (by show 2 * p.val / 2 = p.val; omega)
    have hs : (⟨2 * p.val / 128, by omega⟩ : Fin 56) = ⟨p.val / 64, by omega⟩ := Fin.ext (by show 2 * p.val / 128 = p.val / 64; omega)
    have hc : 2 * p.val % 2 = 0 := by omega
    dsimp only
    rw [hb, hs, hc]
  · have hb : (⟨(2 * p.val + 1) / 2, by omega⟩ : Fin 3584) = p := Fin.ext (by show (2 * p.val + 1) / 2 = p.val; omega)
    have hs : (⟨(2 * p.val + 1) / 128, by omega⟩ : Fin 56) = ⟨p.val / 64, by omega⟩ :=
      Fin.ext (by show (2 * p.val + 1) / 128 = p.val / 64; omega)
    have hc : (2 * p.val + 1) % 2 = 1 := by omega
    dsimp only
    rw [hb, hs, hc]

/-- THE REFERENCE'S RESULT IS THE KERNEL'S: `swiglu` of the arguments. -/
theorem result_eq (x : S2x128x7168.Idx → EReal) (b : S3584x18432.Idx → BitVec 8) (s : S56x18432.Idx → EReal)
    (b' : S3584x18432.Idx → BitVec 8) (s' : S56x18432.Idx → EReal) :
    val_main_v45 (F := Ideal) x b s b' s' = swiglu x b s b' s' := by
  suffices h : ∀ (r : Fin 256) (n : Fin 18432),
      val_main_v45 (F := Ideal) x b s b' s' (ix2 r n : S256x18432.Idx) = swiglu x b s b' s' (ix2 r n : S256x18432.Idx) by
    funext i
    obtain ⟨r, n, rfl⟩ : ∃ (r : Fin 256) (n : Fin 18432), i = (ix2 r n : S256x18432.Idx) :=
      ⟨i 0, i 1, ValueIdx.eq_ix2 (i : S256x18432.Idx)⟩
    exact h r n
  intro r n
  rw [Ref.result_apply, projection_eq, projection_eq]
  rfl

end Cert.Proof

end
-- ==== Proof.lean ====
/-
  THE ASSEMBLY. The five claims: the kernel as printed, its idealization and the reference each run to the end with their
  arguments unchanged and every semaphore counter at zero; the idealization rewrote nothing; and over the extended reals the
  kernel's result is the reference's. The mathematics is in the modules beside this file:
    Codes      what the kernel reads out of the packed bytes: the two four-bit codes of a byte, each less eight;
    Weights    the weights of one tile, the decoded entries times the scales of their groups;
    Block      what one grid point stores at a row and a column of its block;
    Array      what the result array holds after the run, as one function of the arguments (`swiglu`);
    Reference  what the reference computes at a row and a column;
    Equation   the two are equal: the reference's sum over even features and sum over odd ones are the kernel's one sum.
-/
module

public import proofs.«01_k».proof.Defs
public import proofs.«01_k».proof.Proof.Equation
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The reference runs to the end, its arguments unchanged; it declares no semaphore, so every counter reads zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference both run, and from equal arguments both end with `swiglu` of the
    arguments in their result. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => swiglu (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg4)),
    (θ_run Cert.KernelIdeal.defs _ _).mono (fun r h c => ⟨(h c).1.trans (final_eq m c), (h c).2⟩)
      (Cert.KernelIdeal.Value.run_blocks (F := Ideal) m g),
    (θ_run Cert.ReferenceIdeal.defs _ _).mono (fun r h c => ⟨(h c).1.trans ?_, (h c).2⟩)
      (Cert.ReferenceIdeal.Value.run (F := Ideal) m' g')⟩
  obtain ⟨e0, e1, e2, e3, e4⟩ := hargs c
  rw [Cert.ReferenceIdeal.Read.val_main_v45_eq, e0, e1, e2, e3, e4]
  exact result_eq _ _ _ _ _

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
